-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_scale_nan [hPre_no_scale_nan : Cert.Pre_no_scale_nan.Facts] (m : (ℓ : Loc Cert.KernelIdeal.nD Cert.KernelIdeal.τ Cert.KernelIdeal.sig) → Buf (Elt Ideal) ℓ) : Prop :=
  ∀ c : Dev Cert.KernelIdeal.nD,
    (Cert.Pre_no_scale_nan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_scale_nan [hPre_no_scale_nan : Cert.Pre_no_scale_nan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_scale_nan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_scale_nan [hKernelIdeal : Cert.KernelIdeal.Facts] [hPre_no_scale_nan : Cert.Pre_no_scale_nan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_scale_nan m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_scale_nan [hReferenceIdeal : Cert.ReferenceIdeal.Facts] [hPre_no_scale_nan : Cert.Pre_no_scale_nan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_scale_nan m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_no_scale_nan [hKernelIdeal : Cert.KernelIdeal.Facts] [hReferenceIdeal : Cert.ReferenceIdeal.Facts] [hPre_no_scale_nan : Cert.Pre_no_scale_nan.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_scale_nan m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_scale_nan : Cert.Pre_no_scale_nan.Facts),
    quiescent_Kernel (hKernel := hKernel)
    ∧ quiescent_KernelIdeal (hKernelIdeal := hKernelIdeal)
    ∧ quiescent_KernelIdeal_pre_no_scale_nan (hKernelIdeal := hKernelIdeal) (hPre_no_scale_nan := hPre_no_scale_nan)
    ∧ quiescent_ReferenceIdeal (hReferenceIdeal := hReferenceIdeal)
    ∧ quiescent_ReferenceIdeal_pre_no_scale_nan (hReferenceIdeal := hReferenceIdeal) (hPre_no_scale_nan := hPre_no_scale_nan)
    ∧ preserves_Kernel_KernelIdeal
    ∧ algebraic_KernelIdeal_ReferenceIdeal_pre_no_scale_nan (hKernelIdeal := hKernelIdeal) (hReferenceIdeal := hReferenceIdeal) (hPre_no_scale_nan := hPre_no_scale_nan)
-- ==== Pre_no_scale_nan.lean ====
abbrev S256x1x11008 : Shape := ⟨3, ![256, 1, 11008]⟩
abbrev S5376x344x34 : Shape := ⟨3, ![5376, 344, 34]⟩
abbrev S5376x344x1 : Shape := ⟨3, ![5376, 344, 1]⟩
abbrev S5376x344 : Shape := ⟨2, ![5376, 344]⟩
abbrev S_ : Shape := ⟨0, ![]⟩

class Facts : Prop where
  slices_S5376x344x34_S5376x344x1_0_0_0 : S5376x344x34.Slices ![0, 0, 0] S5376x344x1
  shapeCasts_S5376x344x1_S5376x344 : S5376x344x1.ShapeCasts S5376x344
  natLt_8_32 : 8 < 32
  slices_S5376x344x34_S5376x344x1_0_0_1 : S5376x344x34.Slices ![0, 0, 1] S5376x344x1
  bcast_S_S5376x344 : S_.BroadcastsInDim S5376x344 (![] : Fin 0 → Fin S5376x344.rank)

variable [Facts]

def fn {F : FTy → Type} [FloatOps F] (main_arg0 : FVec F S256x1x11008 .bf16) (main_arg1 : IVec S5376x344x34 8) : IVec S5376x344 1 :=
  let main_v0 : IVec S5376x344x1 8 := (extractStridedSlice S5376x344x1 ![0, 0, 0] · slices_S5376x344x34_S5376x344x1_0_0_0) main_arg1
  let main_v1 : IVec S5376x344 8 := shapeCast S5376x344 main_v0 shapeCasts_S5376x344x1_S5376x344
  let main_v2 : IVec S5376x344 32 := (extui 32 · natLt_8_32) main_v1
  let main_v3 : IVec S5376x344x1 8 := (extractStridedSlice S5376x344x1 ![0, 0, 1] · slices_S5376x344x34_S5376x344x1_0_0_1) main_arg1
  let main_v4 : IVec S5376x344 8 := shapeCast S5376x344 main_v3 shapeCasts_S5376x344x1_S5376x344
  let main_v5 : IVec S5376x344 32 := (extui 32 · natLt_8_32) main_v4
  let main_c : IVec S_ 32 := constantI S_ 32 127#32
  let main_v6 : IVec S5376x344 32 := broadcastInDim S5376x344 ![] bcast_S_S5376x344 main_c
  let main_v7 : IVec S5376x344 32 := andi main_v5 main_v6
  let main_c_0 : IVec S_ 32 := constantI S_ 32 256#32
  let main_v8 : IVec S5376x344 32 := broadcastInDim S5376x344 ![] bcast_S_S5376x344 main_c_0
  let main_v9 : IVec S5376x344 32 := muli main_v7 main_v8
  let main_v10 : IVec S5376x344 32 := addi main_v9 main_v2
  let main_c_1 : IVec S_ 32 := constantI S_ 32 31744#32
  let main_v11 : IVec S5376x344 32 := broadcastInDim S5376x344 ![] bcast_S_S5376x344 main_c_1
  let main_v12 : IVec S5376x344 1 := cmpi .sle main_v10 main_v11
  main_v12
-- ==== Kernel.lean ====
abbrev S256x1x11008 : Shape := ⟨3, ![256, 1, 11008]⟩
abbrev S5376x344x34 : Shape := ⟨3, ![5376, 344, 34]⟩
abbrev S34x344x5376 : Shape := ⟨3, ![34, 344, 5376]⟩
abbrev S256x11008 : Shape := ⟨2, ![256, 11008]⟩
abbrev S256x5376 : Shape := ⟨2, ![256, 5376]⟩
abbrev S34x344x256 : Shape := ⟨3, ![34, 344, 256]⟩
abbrev S256x256 : Shape := ⟨2, ![256, 256]⟩
abbrev S1x8x256 : Shape := ⟨3, ![1, 8, 256]⟩
abbrev S8x256 : Shape := ⟨2, ![8, 256]⟩
abbrev S256x1x5376 : Shape := ⟨3, ![256, 1, 5376]⟩

abbrev nBuf : Space → Nat
  | .hbm => 6
  | .vmem => 7
  | .smem => 0
  | _ => 0

abbrev bufTy : (tb : Table) → Fin (tcTables nBuf tb) → BufTy
  | .hbm, ⟨0, _⟩ => ⟨S256x1x11008, .bf16⟩
  | .hbm, ⟨1, _⟩ => ⟨S5376x344x34, .i8⟩
  | .hbm, ⟨2, _⟩ => ⟨S34x344x5376, .i8⟩
  | .hbm, ⟨3, _⟩ => ⟨S256x11008, .bf16⟩
  | .hbm, ⟨4, _⟩ => ⟨S256x5376, .bf16⟩
  | .hbm, ⟨5, _⟩ => ⟨S256x1x5376, .bf16⟩
  | .local _ .vmem, ⟨0, _⟩ => ⟨S256x11008, .bf16⟩
  | .local _ .vmem, ⟨1, _⟩ => ⟨S34x344x256, .i8⟩
  | .local _ .vmem, ⟨2, _⟩ => ⟨S34x344x256, .i8⟩
  | .local _ .vmem, ⟨3, _⟩ => ⟨S256x256, .bf16⟩
  | .local _ .vmem, ⟨4, _⟩ => ⟨S256x256, .bf16⟩
  | .local _ .vmem, ⟨5, _⟩ => ⟨S256x11008, .bf16⟩
  | .local _ .vmem, ⟨6, _⟩ => ⟨S256x256, .f32⟩
  | _, _ => ⟨S256x1x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S34x344x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S256x1x11008 : Shape := ⟨3, ![256, 1, 11008]⟩
abbrev S5376x344x34 : Shape := ⟨3, ![5376, 344, 34]⟩
abbrev S5376x344x2 : Shape := ⟨3, ![5376, 344, 2]⟩
abbrev S5376x344 : Shape := ⟨2, ![5376, 344]⟩
abbrev S5376x344x32 : Shape := ⟨3, ![5376, 344, 32]⟩
abbrev S5376x344x1 : Shape := ⟨3, ![5376, 344, 1]⟩
abbrev S5376x11008 : Shape := ⟨2, ![5376, 11008]⟩
abbrev S256x1x5376 : Shape := ⟨3, ![256, 1, 5376]⟩

abbrev nBuf : Space → Nat
  | .hbm => 10
  | .vmem => 3
  | .smem => 0
  | _ => 0

abbrev bufTy : (tb : Table) → Fin (tcTables nBuf tb) → BufTy
  | .hbm, ⟨0, _⟩ => ⟨S256x1x11008, .bf16⟩
  | .hbm, ⟨1, _⟩ => ⟨S5376x344x34, .i8⟩
  | .hbm, ⟨2, _⟩ => ⟨S5376x344x2, .i8⟩
  | .hbm, ⟨3, _⟩ => ⟨S5376x344, .f16⟩
  | .hbm, ⟨4, _⟩ => ⟨S5376x344x32, .i8⟩
  | .hbm, ⟨5, _⟩ => ⟨S5376x344x32, .i8⟩
  | .hbm, ⟨6, _⟩ => ⟨S5376x344x32, .bf16⟩
  | .hbm, ⟨7, _⟩ => ⟨S5376x11008, .bf16⟩
  | .hbm, ⟨8, _⟩ => ⟨S256x1x5376, .f32⟩
  | .hbm, ⟨9, _⟩ => ⟨S256x1x5376, .bf16⟩
  | .local _ .vmem, ⟨0, _⟩ => ⟨S5376x344x32, .i8⟩
  | .local _ .vmem, ⟨1, _⟩ => ⟨S5376x344, .f16⟩
  | .local _ .vmem, ⟨2, _⟩ => ⟨S5376x344x32, .bf16⟩
  | _, _ => ⟨S256x1x11008, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S5376x344x32 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5376x344 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5376x344x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Body.lean ====
module
public import proofs.«01_k».proof.Proof.Gen.KernelIdeal.Frame
public import Idealize.ShloMosaic.Lib.Pipeline.Value
public import Idealize.ShloMosaic.Lib.Pointwise

/-! # What one grid point of the kernel computes, as a recursion over the 43 blocks of the contracted axis

The body is unrolled: 43 times it dequantises 256 rows of the weights, multiplies, and adds into the accumulator.
Here the same computation is said once, for a block number `kb`, and the unrolled body is shown to be it. -/

@[expose] public section
set_option maxRecDepth 16384
noncomputable section

namespace Cert.KernelIdeal.Body
open Cert.KernelIdeal Cert.KernelIdeal.Gen Idealize.ShloMosaic Idealize.ShloMosaic.TcCoe Idealize.SL.Sem
variable {F : FTy → Type} [FloatOps F]

/-! ## The two loads -/

/-- The 8 rows of byte plane `j` that block `kb` of the contracted axis names. -/
theorem planeInb (j kb : ℕ) : ∀ a, (![j % 34, 8 * (kb % 43), 0] : Fin 3 → ℕ) a + S1x8x256.size a ≤ S34x344x256.size a := by
  intro a
  have h1 := Nat.mod_lt j (show 34 > 0 by decide)
  have h2 := Nat.mod_lt kb (show 43 > 0 by decide)
  fin_cases a
  · show j % 34 + 1 ≤ 34; omega
  · show 8 * (kb % 43) + 8 ≤ 344; omega
  · show 0 + 256 ≤ 256; omega

abbrev planeRect (j kb : ℕ) : Rect S34x344x256 := Rect.unit ![j % 34, 8 * (kb % 43), 0] S1x8x256.size (planeInb j kb)

/-- The 256 columns of the activations that block `kb` names. -/
theorem colsInb (kb : ℕ) : ∀ a, (![0, 256 * (kb % 43)] : Fin 2 → ℕ) a + S256x256.size a ≤ S256x11008.size a := by
  intro a
  have h2 := Nat.mod_lt kb (show 43 > 0 by decide)
  fin_cases a
  · show 0 + 256 ≤ 256; omega
  · show 256 * (kb % 43) + 256 ≤ 11008; omega

abbrev colsRect (kb : ℕ) : Rect S256x11008 := Rect.unit ![0, 256 * (kb % 43)] S256x256.size (colsInb kb)

abbrev wholeRect : Rect S256x256 := Rect.unit ![0, 0] S256x256.size inb_S256x256_S256x256_0_0

/-! ## One block -/

/-- The scale the body decodes from the two bytes of a half-precision number. -/
def scale (lo hi : Vec F S1x8x256 .i8) : FVec F S8x256 .f32 :=
  k0_pay61 (k0_pay56 lo hi) (k0_pay58 lo hi) (k0_pay59 lo hi) (k0_pay60 lo hi)

/-- One plane of codes times the scales. -/
def slab (q : Vec F S1x8x256 .i8) (s : FVec F S8x256 .f32) : FVec F S8x256 .f32 :=
  mulf (extf .f32 (sitofp .bf16 (shapeCast S8x256 q shapeCasts_S1x8x256_S8x256)) bitsLt_bf16_f32) s

/-- The 32 planes of one block's dequantised codes. -/
def plane (L : ℕ → Vec F S1x8x256 .i8) (j : Fin 32) : FVec F S8x256 .f32 := slab (L (2 + j.val)) (scale (L 0) (L 1))

/-- Their concatenation fills a 256 by 256 block. -/
theorem planesOk (L : ℕ → Vec F S1x8x256 .i8) :
    Shape.Concatenates ((List.ofFn fun j : Fin 32 => (⟨S8x256, plane L j⟩ : (s : Shape) × (s.Idx → F .f32))).map (·.1)) S256x256 0 := by
  rw [List.map_ofFn]
  exact (by decide : Shape.Concatenates (List.ofFn fun _ : Fin 32 => S8x256) S256x256 0)

/-- One block of dequantised weights: plane `j` is rows `8 j` to `8 j + 7`. -/
def deq (L : ℕ → Vec F S1x8x256 .i8) : FVec F S256x256 .f32 :=
  concatenate S256x256 0 (List.ofFn fun j : Fin 32 => (⟨S8x256, plane L j⟩ : (s : Shape) × (s.Idx → F .f32))) (planesOk L)

/-- The accumulator after `n` blocks, from the blocks `x` of the activations and the planes `L` of each block. -/
def acc (x : ℕ → Vec F S256x256 .bf16) (L : ℕ → ℕ → Vec F S1x8x256 .i8) : ℕ → Vec F S256x256 .f32
  | 0 => k0_pay55
  | n + 1 => k0_pay2 (deq (L n)) (acc x L n) (x n)

/-- The stores into the accumulator's buffer for `n` blocks, last first: each reads back what the one before left. -/
def accPieces (v : View sig .tc .vmem S256x256 .f32) (x : ℕ → Vec F S256x256 .bf16) (L : ℕ → ℕ → Vec F S1x8x256 .i8) :
    ℕ → List (View.Piece (Elt F) S256x256 .f32)
  | 0 => [⟨wholeRect, k0_pay55⟩]
  | n + 1 => ⟨wholeRect, k0_pay2 (deq (L n)) (v.readCov (accPieces v x L n) wholeRect.toLoadRect) (x n)⟩ :: accPieces v x L n

/-- Reading the buffer back after `n` blocks gives the accumulator after `n` blocks. -/
theorem readCov_accPieces (v : View sig .tc .vmem S256x256 .f32) (x : ℕ → Vec F S256x256 .bf16) (L : ℕ → ℕ → Vec F S1x8x256 .i8) :
    ∀ n, v.readCov (accPieces v x L n) wholeRect.toLoadRect = acc x L n
  | 0 => View.readCov_cons_toLoadRect v wholeRect _ _
  | n + 1 => by
    rw [accPieces, View.readCov_cons_toLoadRect, readCov_accPieces v x L n]; rfl

/-- The planes of block `kb` of a window of the byte array. -/
def planesOf (w : Vec F S34x344x256 .i8) (kb j : ℕ) : Vec F S1x8x256 .i8 := View.ld w (planeRect j kb)

/-- Block `kb` of the permuted activations. -/
def colsOf (x : Vec F S256x11008 .bf16) (kb : ℕ) : Vec F S256x256 .bf16 := View.ld x (colsRect kb)

/-! ## The unrolled body is the recursion -/

/-- A later grid point's stores into the accumulator. -/
theorem pieces_B (c : Dev nD) (arg2 : Memref sig .tc .vmem S34x344x256 .i8) (harg2 : arg2.IsWhole)
    (arg4 : Memref sig .tc .vmem S256x11008 .bf16) (harg4 : arg4.IsWhole) (arg5 : Memref sig .tc .vmem S256x256 .f32)
    (x1 : Vec F S34x344x256 .i8) (xs0 : Vec F S256x11008 .bf16) :
    kernelRun0_B.sl.HS1_44 c arg2 harg2 arg4 harg4 arg5 x1 xs0
      = accPieces arg5.view (colsOf (arg4.view.read (Elt F) (harg4.unread xs0))) (planesOf (arg2.view.read (Elt F) (harg2.unread x1))) 43 := by
  sl_kernel_rfl

/-- The stores that permute the activations, for `n` blocks, last first: block `kb` of the source times the permutation matrix. -/
def permPieces (x : ℕ → Vec F S256x256 .bf16) : ℕ → List (View.Piece (Elt F) S256x11008 .bf16)
  | 0 => []
  | n + 1 => ⟨colsRect n, k0_pay6 k0_pay4 (x n)⟩ :: permPieces x n

/-- The first grid point's stores into the scratch of permuted activations. -/
theorem permPieces_A (c : Dev nD) (arg1 : Memref sig .tc .vmem S256x11008 .bf16) (harg1 : arg1.IsWhole) (x0 : Vec F S256x11008 .bf16) :
    kernelRun0_A.sl.HS0_43 c arg1 harg1 x0 = permPieces (colsOf (arg1.view.read (Elt F) (harg1.unread x0))) 43 := by
  sl_kernel_rfl

/-- The first grid point's stores into the accumulator: the activations are read back from the scratch it just filled. -/
theorem pieces_A (c : Dev nD) (arg1 : Memref sig .tc .vmem S256x11008 .bf16) (harg1 : arg1.IsWhole)
    (arg2 : Memref sig .tc .vmem S34x344x256 .i8) (harg2 : arg2.IsWhole)
    (arg4 : Memref sig .tc .vmem S256x11008 .bf16) (arg5 : Memref sig .tc .vmem S256x256 .f32)
    (x0 : Vec F S256x11008 .bf16) (x1 : Vec F S34x344x256 .i8) :
    kernelRun0_A.sl.HS1_44 c arg1 harg1 arg2 harg2 arg4 arg5 x0 x1
      = accPieces arg5.view (fun kb => arg4.view.readCov (kernelRun0_A.sl.HS0_43 c arg1 harg1 x0) (colsRect kb).toLoadRect)
          (planesOf (arg2.view.read (Elt F) (harg2.unread x1))) 43 := by
  sl_kernel_rfl

/-! ## What the body leaves -/

/-- The block of the result: the accumulator after all 43 blocks, rounded. -/
def block (xp : Vec F S256x11008 .bf16) (w : Vec F S34x344x256 .i8) : Vec F S256x256 .bf16 :=
  k0_pay3 (acc (colsOf xp) (planesOf w) 43)

/-- The permuted activations. -/
def permuted (x : Vec F S256x11008 .bf16) : Vec F S256x11008 .bf16 := View.canon (permPieces (colsOf x) 43)

variable (c : Dev nD) (i : grid0.Coords) (arg1 : Memref sig .tc .vmem S256x11008 .bf16) (harg1 : arg1.IsWhole)
  (arg2 : Memref sig .tc .vmem S34x344x256 .i8) (harg2 : arg2.IsWhole) (arg3 : Memref sig .tc .vmem S256x256 .bf16) (harg3 : arg3.IsWhole)
  (arg4 : Memref sig .tc .vmem S256x11008 .bf16) (harg4 : arg4.IsWhole) (arg5 : Memref sig .tc .vmem S256x256 .f32) (harg5 : arg5.IsWhole)

/-- A later grid point writes the block of the result from the permuted activations it finds. -/
theorem out_B (hc0) (x0 : Vec F S256x11008 .bf16) (x1 : Vec F S34x344x256 .i8) (xs0 : Vec F S256x11008 .bf16) :
    out0_B_2 c i arg1 harg1 arg2 harg2 arg3 harg3 arg4 harg4 arg5 harg5 hc0 x0 x1 xs0 = block xs0 x1 := by
  unfold out0_B_2
  rw [View.read_writes_junk_eq_canon]
  unfold kernelRun0_B; dsimp only
  refine (View.canon_unit_zero (S := S256x256) (funext (by decide)) _ _).trans ?_
  unfold kernelRun0_B.sl.v9037
  rw [pieces_B, readCov_accPieces, Memref.IsWhole.read_unread, Memref.IsWhole.read_unread]
  rfl

/-- The first grid point leaves the permuted activations in the scratch, -/
theorem sout_A (hc0) (x0 : Vec F S256x11008 .bf16) (x1 : Vec F S34x344x256 .i8) :
    sout0_A_0 c i arg1 harg1 arg2 harg2 arg3 harg3 arg4 harg4 arg5 harg5 hc0 x0 x1 = permuted x0 := by
  unfold sout0_A_0
  rw [View.read_writes_junk_eq_canon]
  unfold kernelRun0_A; dsimp only
  rw [permPieces_A, Memref.IsWhole.read_unread]
  rfl

/-- and writes the block of the result from them. -/
theorem out_A (hc0) (x0 : Vec F S256x11008 .bf16) (x1 : Vec F S34x344x256 .i8) :
    out0_A_2 c i arg1 harg1 arg2 harg2 arg3 harg3 arg4 harg4 arg5 harg5 hc0 x0 x1 = block (permuted x0) x1 := by
  unfold out0_A_2
  rw [View.read_writes_junk_eq_canon]
  unfold kernelRun0_A; dsimp only
  refine (View.canon_unit_zero (S := S256x256) (funext (by decide)) _ _).trans ?_
  unfold kernelRun0_A.sl.v9037
  rw [pieces_A, readCov_accPieces, Memref.IsWhole.read_unread, permPieces_A, Memref.IsWhole.read_unread]
  simp only [View.readCov_eq_canon']
  rfl

end Cert.KernelIdeal.Body
end
-- ==== Proof.Half.lean ====
/- The 16-bit scale read by hand: the integer steps by which a float16 word is turned into the bits of a float32, and the
   proof that at the extended reals they give the number that the float16 word denotes, unless the word is a NaN. -/
module

public import Idealize.ShloMosaic.PureOps.Ideal
public import Mathlib.Tactic.NormNum
public import Mathlib.Tactic.Ring

@[expose] public section

noncomputable section

namespace Cert.Half

open Idealize.ShloMosaic

/-- The 16 bits of a scale in a 32-bit word: the low byte, and the high byte shifted over it. -/
def word (lo hi : BitVec 8) : BitVec 32 :=
  (lo.setWidth 32 &&& 255#32) ||| ((hi.setWidth 32 &&& 255#32) <<< 8)

/-- The magnitude bits of the word, shifted so that its exponent field is a float32's low five exponent bits. -/
def mag (w : BitVec 32) : BitVec 32 := (w &&& 32767#32) <<< 13

/-- The exponent field of the magnitude, in place. -/
def expo (w : BitVec 32) : BitVec 32 := mag w &&& 260046848#32

/-- What is added to the magnitude to move its exponent to a float32's bias; an infinity's exponent goes to all ones. -/
def rebias (w : BitVec 32) : BitVec 32 := if expo w = 260046848#32 then 1879048192#32 else 939524096#32

/-- The magnitude as an extended real: a zero exponent is a subnormal, made by a subtraction. -/
def magnitude (w : BitVec 32) : EReal :=
  if expo w = 0#32 then Ideal.ieee 8 23 (mag w + 947912704#32) - Ideal.ieee 8 23 0x38800000#32
  else Ideal.ieee 8 23 (mag w + rebias w)

/-- The scale as an extended real, its sign put on by a subtraction from zero. -/
def value (w : BitVec 32) : EReal :=
  if w &&& 32768#32 ≠ 0#32 then Ideal.ieee 8 23 0#32 - magnitude w else magnitude w

/-- The word, as a number. -/
theorem word_toNat (lo hi : BitVec 8) : (word lo hi).toNat = lo.toNat + 256 * hi.toNat := by
  have hl := lo.isLt
  have hh := hi.isLt
  have e1 : ∀ x : BitVec 8, (x.setWidth 32 &&& 255#32).toNat = x.toNat := fun x => by
    have hx := x.isLt
    rw [BitVec.toNat_and, BitVec.toNat_setWidth, show (255#32).toNat = 2 ^ 8 - 1 from rfl,
      Nat.and_two_pow_sub_one_eq_mod]
    omega
  unfold word
  rw [BitVec.toNat_or, BitVec.toNat_shiftLeft, e1, e1, Nat.shiftLeft_eq, Nat.mod_eq_of_lt (by omega), Nat.or_comm,
    ← Nat.shiftLeft_eq, ← Nat.shiftLeft_add_eq_or_of_lt (by omega), Nat.shiftLeft_eq]
  omega

/-- A 16-bit number's magnitude bits, shifted, as a number. -/
theorem mag_toNat (w : BitVec 32) : (mag w).toNat = w.toNat % 32768 * 8192 := by
  unfold mag
  rw [BitVec.toNat_shiftLeft, BitVec.toNat_and, show (32767#32).toNat = 2 ^ 15 - 1 from rfl,
    Nat.and_two_pow_sub_one_eq_mod, Nat.shiftLeft_eq, Nat.mod_eq_of_lt (by omega)]

/-- Masking a number by a field in place is shifting down, masking and shifting back. -/
theorem and_shift (x k j : ℕ) : x &&& (k <<< j) = ((x >>> j) &&& k) <<< j := by
  apply Nat.eq_of_testBit_eq
  intro i
  rw [Nat.testBit_and, Nat.testBit_shiftLeft, Nat.testBit_shiftLeft, Nat.testBit_and, Nat.testBit_shiftRight]
  by_cases hi : j ≤ i
  · rw [show j + (i - j) = i by omega]; simp [hi]
  · simp [hi]

/-- The five exponent bits in place. -/
theorem and_field (x : ℕ) : x &&& 260046848 = x / 8388608 % 32 * 8388608 := by
  rw [show (260046848 : ℕ) = 31 <<< 23 from rfl, and_shift, Nat.shiftLeft_eq, Nat.shiftRight_eq_div_pow,
    show (31 : ℕ) = 2 ^ 5 - 1 from rfl, Nat.and_two_pow_sub_one_eq_mod]

/-- The sign bit in place. -/
theorem and_sign (x : ℕ) : x &&& 32768 = x / 32768 % 2 * 32768 := by
  have h := and_shift x (2 ^ 1 - 1) 15
  rwa [Nat.shiftLeft_eq, Nat.shiftLeft_eq, Nat.shiftRight_eq_div_pow, Nat.and_two_pow_sub_one_eq_mod] at h

/-- The exponent field in place, as a number. -/
theorem expo_toNat (w : BitVec 32) : (expo w).toNat = w.toNat / 1024 % 32 * 8388608 := by
  unfold expo
  rw [BitVec.toNat_and, mag_toNat, show (260046848#32).toNat = 260046848 from rfl, and_field]
  omega

/-- Equality with a literal word, as numbers. -/
theorem eq_iff {w : ℕ} (a b : BitVec w) : a = b ↔ a.toNat = b.toNat := BitVec.toNat_inj.symm

/-- The number a float32 pattern of positive sign and finite exponent field `e ≠ 0` denotes. -/
theorem ieee32_normal (b : BitVec 32) (e f : ℕ) (he : 0 < e) (he' : e < 255) (hf : f < 8388608)
    (hb : b.toNat = e * 8388608 + f) :
    Ideal.ieee 8 23 b = (((8388608 + f : ℕ) * (2 : ℝ) ^ ((e : ℤ) - 150) : ℝ) : EReal) := by
  have h1 : (b.extractLsb' 31 1).toNat = 0 := by
    rw [BitVec.extractLsb'_toNat, Nat.shiftRight_eq_div_pow]; omega
  have h2 : (b.extractLsb' 23 8).toNat = e := by
    rw [BitVec.extractLsb'_toNat, Nat.shiftRight_eq_div_pow]; omega
  have h3 : (b.extractLsb' 0 23).toNat = f := by
    rw [BitVec.extractLsb'_toNat, Nat.shiftRight_eq_div_pow]; omega
  have h1' : (b.extractLsb' 31 1 == 1#1) = false := by
    rw [beq_eq_false_iff_ne, ne_eq, eq_iff, h1]; decide
  unfold Ideal.ieee
  simp only [Nat.reduceAdd, h2, h3, h1']
  rw [if_neg (by omega), if_neg (by omega)]
  rw [if_neg (by decide), one_mul, show ((e : ℤ) - (2 ^ (8 - 1) - 1) - ((23 : ℕ) : ℤ)) = (e : ℤ) - 150 by norm_num; ring]
  norm_num

/-- The float32 pattern of plus infinity. -/
theorem ieee32_top (b : BitVec 32) (hb : b.toNat = 255 * 8388608) : Ideal.ieee 8 23 b = ⊤ := by
  obtain rfl : b = 0x7F800000#32 := by rw [eq_iff, hb]; rfl
  simp [Ideal.ieee]

/-- The float32 pattern of zero. -/
theorem ieee32_zero : Ideal.ieee 8 23 0#32 = 0 := by simp [Ideal.ieee]

/-- What a float16 word denotes, from its number: sign `s`, exponent field `e`, significand field `f`. -/
theorem ieee16 (b : BitVec 16) : Ideal.ieee 5 10 b =
    (if b.toNat / 1024 % 32 = 31 then
      (if b.toNat % 1024 = 0 then (if b.toNat / 32768 = 1 then ⊥ else ⊤) else ⊥)
    else if b.toNat / 1024 % 32 = 0 then
      (((if b.toNat / 32768 = 1 then -1 else 1 : ℝ) * (b.toNat % 1024 : ℕ) * (2 : ℝ) ^ (-24 : ℤ) : ℝ) : EReal)
    else (((if b.toNat / 32768 = 1 then -1 else 1 : ℝ) * (1024 + b.toNat % 1024 : ℕ)
        * (2 : ℝ) ^ (((b.toNat / 1024 % 32 : ℕ) : ℤ) - 25) : ℝ) : EReal)) := by
  have hb := b.isLt
  have h1 : (b.extractLsb' 15 1 == 1#1) = decide (b.toNat / 32768 = 1) := by
    rw [Bool.eq_iff_iff, beq_iff_eq, decide_eq_true_eq, eq_iff, BitVec.extractLsb'_toNat, Nat.shiftRight_eq_div_pow]
    show b.toNat / 2 ^ 15 % 2 ^ 1 = 1 ↔ _
    omega
  have h2 : (b.extractLsb' 10 5).toNat = b.toNat / 1024 % 32 := by
    rw [BitVec.extractLsb'_toNat, Nat.shiftRight_eq_div_pow]
  have h3 : (b.extractLsb' 0 10).toNat = b.toNat % 1024 := by
    rw [BitVec.extractLsb'_toNat, Nat.shiftRight_eq_div_pow]; simp
  unfold Ideal.ieee
  simp only [Nat.reduceAdd, h2, h3, h1, decide_eq_true_eq]
  norm_num
  congr 3
  ring_nf

/-- The magnitude of a word that is no NaN, as an extended real: by exponent field. -/
theorem magnitude_eq (w : BitVec 32) (hn : w.toNat % 32768 ≤ 31744) : magnitude w =
    (if w.toNat / 1024 % 32 = 31 then ⊤
    else if w.toNat / 1024 % 32 = 0 then (((w.toNat % 1024 : ℕ) * (2 : ℝ) ^ (-24 : ℤ) : ℝ) : EReal)
    else (((1024 + w.toNat % 1024 : ℕ) * (2 : ℝ) ^ (((w.toNat / 1024 % 32 : ℕ) : ℤ) - 25) : ℝ) : EReal)) := by
  have hm := mag_toNat w
  have hx := expo_toNat w
  set n := w.toNat
  have e0 : expo w = 0#32 ↔ n / 1024 % 32 = 0 := by
    rw [eq_iff, hx]; show _ * 8388608 = 0 ↔ _; omega
  have e31 : expo w = 260046848#32 ↔ n / 1024 % 32 = 31 := by
    rw [eq_iff, hx]; show _ * 8388608 = 260046848 ↔ _; omega
  unfold magnitude rebias
  by_cases c31 : n / 1024 % 32 = 31
  · have c0 : ¬ n / 1024 % 32 = 0 := by omega
    rw [if_neg (mt e0.mp c0), if_pos (e31.mpr c31), if_pos c31]
    apply ieee32_top
    rw [BitVec.toNat_add, hm]
    show (_ + 1879048192) % 2 ^ 32 = _
    omega
  rw [if_neg (mt e31.mp c31), if_neg c31]
  by_cases c0 : n / 1024 % 32 = 0
  · rw [if_pos (e0.mpr c0), if_pos c0,
      ieee32_normal (mag w + 947912704#32) 113 (n % 1024 * 8192) (by omega) (by omega) (by omega) (by
        rw [BitVec.toNat_add, hm]
        show (_ + 947912704) % 2 ^ 32 = _
        omega),
      ieee32_normal 0x38800000#32 113 0 (by omega) (by omega) (by omega) (by decide), ← EReal.coe_sub]
    congr 1
    push_cast
    norm_num
    ring
  · rw [if_neg (mt e0.mp c0), if_neg c0,
      ieee32_normal (mag w + 939524096#32) (n / 1024 % 32 + 112) (n % 1024 * 8192) (by omega) (by omega) (by omega) (by
        rw [BitVec.toNat_add, hm]
        show (_ + 939524096) % 2 ^ 32 = _
        omega)]
    congr 1
    rw [show ((n / 1024 % 32 + 112 : ℕ) : ℤ) - 150 = (((n / 1024 % 32 : ℕ) : ℤ) - 25) + (-13) by push_cast; ring,
      zpow_add₀ (by norm_num)]
    push_cast
    norm_num
    ring

/-- The scale is the number its float16 word denotes, unless that word is a NaN. -/
theorem value_word (lo hi : BitVec 8) (hn : (lo.toNat + 256 * hi.toNat) % 32768 ≤ 31744) :
    value (word lo hi) = Ideal.ieee 5 10 (hi ++ lo) := by
  have hl := lo.isLt
  have hh := hi.isLt
  have hw := word_toNat lo hi
  have hb : (hi ++ lo : BitVec 16).toNat = lo.toNat + 256 * hi.toNat := by
    rw [BitVec.toNat_append, ← Nat.shiftLeft_add_eq_or_of_lt hl, Nat.shiftLeft_eq]; omega
  rw [ieee16, hb]
  unfold value
  rw [magnitude_eq _ (by rw [hw]; exact hn), hw, ieee32_zero]
  have es : (word lo hi &&& 32768#32 ≠ 0#32) ↔ (lo.toNat + 256 * hi.toNat) / 32768 = 1 := by
    rw [ne_eq, eq_iff, BitVec.toNat_and, hw, show (32768#32).toNat = 32768 from rfl, and_sign]
    show ¬ _ = 0 ↔ _
    omega
  set n := lo.toNat + 256 * hi.toNat
  by_cases cs : n / 32768 = 1
  · rw [if_pos (es.mpr cs)]
    simp only [cs, if_true]
    by_cases c31 : n / 1024 % 32 = 31
    · have : n % 1024 = 0 := by omega
      simp [c31, this]
    · by_cases c0 : n / 1024 % 32 = 0
      · simp only [c0, if_true, if_neg (show ¬ (0 = 31) by decide)]
        rw [zero_sub, ← EReal.coe_neg]; congr 1; ring
      · simp only [c31, c0, if_false]
        rw [zero_sub, ← EReal.coe_neg]; congr 1; ring
  · rw [if_neg (mt es.mp cs)]
    simp only [cs, if_false, one_mul]
    by_cases c31 : n / 1024 % 32 = 31
    · have : n % 1024 = 0 := by omega
      simp [c31, this]
    · simp only [c31, if_false]

end Cert.Half

end
-- ==== Proof.Scale.lean ====
module
public import proofs.«01_k».proof.Proof.Body
public import proofs.«01_k».proof.Proof.Half
public import Idealize.ShloMosaic.Lib.Pointwise

/-! # The scale that the kernel decodes, entry by entry, at the extended reals -/

@[expose] public section
set_option maxRecDepth 16384
noncomputable section

namespace Cert.KernelIdeal.Body
open Cert Cert.KernelIdeal Cert.KernelIdeal.Gen Idealize.ShloMosaic Idealize.ShloMosaic.TcCoe Idealize.SL.Sem

variable (lo hi : Vec Ideal S1x8x256 .i8) (g : Fin 8) (n : Fin 256)

/-- The two bytes as one word. -/
theorem word_apply : k0_pay56 (F := Ideal) lo hi (ix2 g n) = Half.word (lo (ix3 0 g n)) (hi (ix3 0 g n)) := by
  pointwise [k0_pay56]
  rfl

/-- Its magnitude bits. -/
theorem mag_apply (w : BitVec 32) (hw : k0_pay56 (F := Ideal) lo hi (ix2 g n) = w) :
    k0_pay57 (F := Ideal) lo hi (ix2 g n) = Half.mag w := by
  subst hw
  unfold k0_pay57
  generalize k0_pay56 (F := Ideal) lo hi = w
  pointwise
  rfl

/-- Its exponent bits. -/
theorem expo_apply (w : BitVec 32) (hw : k0_pay57 (F := Ideal) lo hi (ix2 g n) = Half.mag w) :
    k0_pay58 (F := Ideal) lo hi (ix2 g n) = Half.expo w := by
  unfold k0_pay58
  revert hw
  generalize k0_pay57 (F := Ideal) lo hi = v
  intro hw
  pointwise
  rw [hw]; rfl

/-- A selection on an equality test, as a conditional. -/
theorem select_eq {α : Type} {k : ℕ} (x y : BitVec k) (a b : α) :
    Scalar.select (IntOp.cmpi .eq x y) a b = if x = y then a else b := by
  show Scalar.select (BitVec.ofBool (x == y)) a b = _
  rw [Scalar.select_ofBool]; simp only [beq_iff_eq]

/-- A selection on an inequality test, as a conditional. -/
theorem select_ne {α : Type} {k : ℕ} (x y : BitVec k) (a b : α) :
    Scalar.select (IntOp.cmpi .ne x y) a b = if x ≠ y then a else b := by
  show Scalar.select (BitVec.ofBool (x != y)) a b = _
  rw [Scalar.select_ofBool]; simp only [bne_iff_ne]

/-- The number with the exponent rebiased. -/
theorem normal_apply (w : BitVec 32) (hm : k0_pay57 (F := Ideal) lo hi (ix2 g n) = Half.mag w)
    (he : k0_pay58 (F := Ideal) lo hi (ix2 g n) = Half.expo w) :
    k0_pay59 (F := Ideal) lo hi (ix2 g n) = Ideal.ieee 8 23 (Half.mag w + Half.rebias w) := by
  unfold k0_pay59
  revert hm he
  generalize k0_pay57 (F := Ideal) lo hi = v
  generalize k0_pay58 (F := Ideal) lo hi = e
  intro hm he
  pointwise
  rw [hm, he, select_eq]
  rfl

/-- The number from which a subnormal is made. -/
theorem tiny_apply (w : BitVec 32) (hm : k0_pay57 (F := Ideal) lo hi (ix2 g n) = Half.mag w) :
    k0_pay60 (F := Ideal) lo hi (ix2 g n) = Ideal.ieee 8 23 (Half.mag w + 947912704#32) := by
  unfold k0_pay60
  revert hm
  generalize k0_pay57 (F := Ideal) lo hi = v
  intro hm
  pointwise
  rw [hm]
  rfl

/-- The selection of the subnormal and the sign. -/
theorem signed_apply (v e : IVec S8x256 32) (x y : FVec Ideal S8x256 .f32) :
    k0_pay61 (F := Ideal) v e x y (ix2 g n)
      = if v (ix2 g n) &&& 32768#32 ≠ 0#32 then
          Ideal.ofBits .f32 0#32 - (if e (ix2 g n) = 0#32 then y (ix2 g n) - Ideal.ofBits .f32 0x38800000#32 else x (ix2 g n))
        else (if e (ix2 g n) = 0#32 then y (ix2 g n) - Ideal.ofBits .f32 0x38800000#32 else x (ix2 g n)) := by
  rw [← select_eq, ← select_ne]
  rfl

/-- The decoded scale of row `g`, column `n`: the number that the two bytes make. -/
theorem scale_apply : scale (F := Ideal) lo hi (ix2 g n) = Half.value (Half.word (lo (ix3 0 g n)) (hi (ix3 0 g n))) := by
  have hw := word_apply lo hi g n
  have hm := mag_apply lo hi g n _ hw
  have he := expo_apply lo hi g n _ hm
  have hx := normal_apply lo hi g n _ hm he
  have hy := tiny_apply lo hi g n _ hm
  unfold scale
  rw [signed_apply, hw, he, hx, hy]
  rfl

end Cert.KernelIdeal.Body
end
-- ==== Proof.Block.lean ====
module
public import proofs.«01_k».proof.Proof.Scale
public import Idealize.ShloMosaic.Lib.Pointwise

/-! # One block of the kernel's result, entry by entry, at the extended reals -/

@[expose] public section
set_option maxRecDepth 16384
noncomputable section

namespace Cert.KernelIdeal.Body
open Cert Cert.KernelIdeal Cert.KernelIdeal.Gen Idealize.ShloMosaic Idealize.ShloMosaic.TcCoe Idealize.SL.Sem

/-- One dequantised code. -/
theorem plane_apply (L : ℕ → Vec Ideal S1x8x256 .i8) (j : Fin 32) (g : Fin 8) (n : Fin 256) :
    plane (F := Ideal) L j (ix2 g n)
      = (((L (2 + j.val) (ix3 0 g n)).toInt : ℝ) : EReal) * Half.value (Half.word (L 0 (ix3 0 g n)) (L 1 (ix3 0 g n))) := by
  unfold plane slab
  pointwise
  rw [scale_apply]
  rfl

/-- Row `r` of a dequantised block is plane `r / 8`, row `r % 8`. -/
theorem deq_apply (L : ℕ → Vec Ideal S1x8x256 .i8) (r n : Fin 256) :
    deq (F := Ideal) L (ix2 r n)
      = (((L (2 + r.val / 8) (ix3 0 ⟨r.val % 8, by omega⟩ n)).toInt : ℝ) : EReal)
        * Half.value (Half.word (L 0 (ix3 0 ⟨r.val % 8, by omega⟩ n)) (L 1 (ix3 0 ⟨r.val % 8, by omega⟩ n))) := by
  unfold deq
  refine (concatenate_ofFn_apply (t := S256x256) (s₁ := S8x256) (0 : Fin 2) (fun j => plane L j) (planesOk L) rfl 8 rfl
    (@ix2 256 256 r n) ⟨r.val / 8, by omega⟩ rfl (@ix2 8 256 ⟨r.val % 8, by omega⟩ n) rfl ?_).trans (plane_apply L _ _ _)
  intro b hb
  fin_cases b
  · exact absurd rfl hb
  · rfl

/-- One accumulation, at an entry. -/
theorem acc_succ_apply (x : ℕ → Vec Ideal S256x256 .bf16) (L : ℕ → ℕ → Vec Ideal S1x8x256 .i8) (k : ℕ) (a n : Fin 256) :
    acc (F := Ideal) x L (k + 1) (@ix2 256 256 a n)
      = acc (F := Ideal) x L k (@ix2 256 256 a n) + ∑ r : Fin 256, x k (@ix2 256 256 a r) * deq (F := Ideal) (L k) (ix2 r n) := by
  rw [acc]
  pointwise [k0_pay2]

theorem acc_zero_apply (x : ℕ → Vec Ideal S256x256 .bf16) (L : ℕ → ℕ → Vec Ideal S1x8x256 .i8) (a n : Fin 256) :
    acc (F := Ideal) x L 0 (@ix2 256 256 a n) = 0 := by
  rw [acc]
  pointwise [k0_pay55]

/-- The accumulator after `k` blocks is the sum over them. -/
theorem acc_apply (x : ℕ → Vec Ideal S256x256 .bf16) (L : ℕ → ℕ → Vec Ideal S1x8x256 .i8) (a n : Fin 256) : ∀ k : ℕ,
    acc (F := Ideal) x L k (@ix2 256 256 a n)
      = ∑ kb ∈ Finset.range k, ∑ r : Fin 256, x kb (@ix2 256 256 a r) * deq (F := Ideal) (L kb) (ix2 r n)
  | 0 => by rw [acc_zero_apply, Finset.sum_range_zero]
  | k + 1 => by rw [acc_succ_apply, acc_apply x L a n k, Finset.sum_range_succ]

/-- The row that the kernel's integer arithmetic computes for a column: `c % 8` and `c / 8` by the signed remainder and
    division with their sign corrections. -/
def permWord (c : BitVec 32) : BitVec 32 :=
  let d := Scalar.select (Scalar.cmpi .eq 8#32 0#32) 1#32 8#32
  let m := IntOp.remsi .vector c d
  let q := IntOp.divsi .vector c 8#32
  let m' := Scalar.select
    (IntOp.andi (IntOp.xori (IntOp.cmpi .slt m 0#32) (Scalar.cmpi .slt d 0#32)) (IntOp.cmpi .ne m 0#32)) (IntOp.addi m d) m
  let s := IntOp.subi (BitVec.setWidth 32 (IntOp.cmpi .sgt c 0#32)) (BitVec.setWidth 32 (IntOp.cmpi .slt c 0#32))
  let s' := Scalar.subi (Scalar.extui (Scalar.cmpi .sgt 8#32 0#32)) (Scalar.extui (Scalar.cmpi .slt 8#32 0#32))
  let q' := Scalar.select (IntOp.andi (IntOp.cmpi .ne s s') (IntOp.cmpi .ne (IntOp.remsi .vector c 8#32) 0#32)) (IntOp.subi q 1#32) q
  IntOp.addi (IntOp.muli m' 32#32) q'

/-- On the 256 columns it is `(c % 8) * 32 + c / 8`. -/
theorem permWord_eq : ∀ c : Fin 256, permWord (BitVec.ofNat 32 c.val) = BitVec.ofNat 32 (c.val % 8 * 32 + c.val / 8) := by
  decide +kernel

/-- The permutation matrix: column `c` picks row `(c % 8) * 32 + c / 8`. -/
theorem perm_apply (r c : Fin 256) :
    k0_pay5 (F := Ideal) k0_pay4 (ix2 r c) = if r.val = c.val % 8 * 32 + c.val / 8 then 1 else 0 := by
  have h : k0_pay4 (ix2 r c) = IntOp.cmpi .eq (BitVec.ofNat 32 r.val) (permWord (BitVec.ofNat 32 c.val)) := by
    pointwise [k0_pay4]
    rfl
  unfold k0_pay5
  revert h
  generalize k0_pay4 = v
  intro h
  pointwise
  rw [h, permWord_eq]
  show FloatOps.sitofp (F := Ideal) .f32 (BitVec.setWidth 32 (BitVec.ofBool (BitVec.ofNat 32 r.val == BitVec.ofNat 32 (c.val % 8 * 32 + c.val / 8)))) = _
  have hr := r.isLt
  have hc := c.isLt
  have e : (BitVec.ofNat 32 r.val == BitVec.ofNat 32 (c.val % 8 * 32 + c.val / 8)) = decide (r.val = c.val % 8 * 32 + c.val / 8) := by
    rw [Bool.eq_iff_iff, beq_iff_eq, decide_eq_true_iff, ← BitVec.toNat_inj, BitVec.toNat_ofNat, BitVec.toNat_ofNat,
      Nat.mod_eq_of_lt (by omega), Nat.mod_eq_of_lt (by omega)]
  rw [e]
  by_cases hp : r.val = c.val % 8 * 32 + c.val / 8
  · rw [if_pos hp, decide_eq_true hp]
    show (((1#32).toInt : ℝ) : EReal) = 1
    rw [show (1#32).toInt = 1 by decide]; norm_num
  · rw [if_neg hp, decide_eq_false hp]
    show (((0#32).toInt : ℝ) : EReal) = 0
    rw [show (0#32).toInt = 0 by decide]; norm_num

/-- A block of activations times the permutation matrix is that block with its columns permuted. -/
theorem permBlock_apply (x : Vec Ideal S256x256 .bf16) (a c : Fin 256) :
    k0_pay6 (F := Ideal) k0_pay4 x (ix2 a c) = x (ix2 a ⟨c.val % 8 * 32 + c.val / 8, by omega⟩) := by
  unfold k0_pay6
  pointwise
  rw [Finset.sum_eq_single (⟨c.val % 8 * 32 + c.val / 8, by omega⟩ : Fin 256)]
  · rw [perm_apply, if_pos rfl, mul_one]
  · intro r _ hr
    rw [perm_apply, if_neg fun h => hr (Fin.ext h), mul_zero]
  · intro h; exact absurd (Finset.mem_univ _) h

end Cert.KernelIdeal.Body
end
-- ==== Proof.Entry.lean ====
module
public import proofs.«01_k».proof.Proof.Block

/-! # An entry of the kernel's result block, as one sum over the contracted axis

The kernel adds block by block, and inside a block in the order of the permuted columns. At the extended reals the sum does
not depend on the order, so an entry is one sum over the 11008 places of the contracted axis. -/

@[expose] public section
set_option maxRecDepth 16384
noncomputable section

namespace Cert.KernelIdeal.Body
open Cert Cert.KernelIdeal Cert.KernelIdeal.Gen Idealize.ShloMosaic Idealize.ShloMosaic.TcCoe Idealize.SL.Sem

/-! ## The loads at an entry -/

/-- Place `k` of the contracted axis. -/
def place (k : ℕ) : Fin 11008 := ⟨k % 11008, Nat.mod_lt _ (by decide)⟩
/-- Group `g` of 32 places. -/
def group (g : ℕ) : Fin 344 := ⟨g % 344, Nat.mod_lt _ (by decide)⟩
/-- Byte `j` of a group. -/
def byte (j : ℕ) : Fin 34 := ⟨j % 34, Nat.mod_lt _ (by decide)⟩

theorem planesOf_apply (w : Vec Ideal S34x344x256 .i8) (kb j : ℕ) (hk : kb < 43) (g : Fin 8) (n : Fin 256) :
    planesOf (F := Ideal) w kb j (ix3 0 g n) = w (ix3 (byte j) (group (8 * kb + g.val)) n) := by
  have hg := g.isLt
  refine congrArg w (funext fun b => Fin.ext ?_)
  fin_cases b
  · show j % 34 + 1 * 0 = j % 34; omega
  · show 8 * (kb % 43) + 1 * g.val = (8 * kb + g.val) % 344; omega
  · show 0 + 1 * n.val = n.val; omega

theorem colsOf_apply (x : Vec Ideal S256x11008 .bf16) (kb : ℕ) (hk : kb < 43) (a c : Fin 256) :
    colsOf (F := Ideal) x kb (ix2 a c) = x (ix2 a (place (256 * kb + c.val))) := by
  have hc := c.isLt
  refine congrArg x (funext fun b => Fin.ext ?_)
  fin_cases b
  · show 0 + 1 * a.val = a.val; omega
  · show 256 * (kb % 43) + 1 * c.val = (256 * kb + c.val) % 11008; omega

/-! ## The permuted activations -/

/-- The place that the permuted activations hold at place `k`: inside its block of 256, column `c` holds `(c % 8) * 32 + c / 8`. -/
def source (k : ℕ) : ℕ := 256 * (k / 256) + (k % 256 % 8 * 32 + k % 256 / 8)

theorem mem_permPieces (f : ℕ → Vec Ideal S256x256 .bf16) (p) : ∀ n, p ∈ permPieces (F := Ideal) f n →
    ∃ k, k < n ∧ p = ⟨colsRect k, k0_pay6 (F := Ideal) k0_pay4 (f k)⟩
  | 0, h => absurd h List.not_mem_nil
  | n + 1, h => by
    rcases List.mem_cons.mp h with rfl | h
    · exact ⟨n, Nat.lt_succ_self n, rfl⟩
    · obtain ⟨k, hk, e⟩ := mem_permPieces f p n h
      exact ⟨k, Nat.lt_succ_of_lt hk, e⟩

theorem permPieces_mem (f : ℕ → Vec Ideal S256x256 .bf16) (k : ℕ) : ∀ n, k < n →
    (⟨colsRect k, k0_pay6 (F := Ideal) k0_pay4 (f k)⟩ : View.Piece (Elt Ideal) S256x11008 .bf16) ∈ permPieces (F := Ideal) f n
  | 0, h => absurd h (Nat.not_lt_zero _)
  | n + 1, h => by
    rcases Nat.lt_succ_iff_lt_or_eq.mp h with h | rfl
    · exact List.mem_cons_of_mem _ (permPieces_mem f k n h)
    · exact List.mem_cons_self

/-- The scratch holds the activations with the columns of every block permuted. -/
theorem permuted_apply (x : Vec Ideal S256x11008 .bf16) (a : Fin 256) (k : Fin 11008) :
    permuted (F := Ideal) x (ix2 a k) = x (ix2 a (place (source k.val))) := by
  refine View.canon_apply_of_pieces (fun y : S256x11008.Idx => x (@ix2 256 11008 (y 0) (place (source (y 1).val)))) _ ?_ (ix2 a k) ?_
  · intro p hp y
    obtain ⟨kb, hkb, rfl⟩ := mem_permPieces _ _ _ hp
    revert y
    intro (y : S256x256.Idx)
    obtain ⟨r, c, rfl⟩ : ∃ (r c : Fin 256), y = ix2 r c := ⟨y 0, y 1, eq_ix2 y⟩
    refine (permBlock_apply _ _ _).trans ((colsOf_apply _ _ hkb _ _).trans (congrArg x (funext fun b => Fin.ext ?_)))
    have hc := c.isLt
    fin_cases b
    · show r.val = 0 + 1 * r.val; omega
    · show (256 * kb + (c.val % 8 * 32 + c.val / 8)) % 11008 = source (256 * (kb % 43) + 1 * c.val) % 11008
      unfold source
      rw [show (256 * (kb % 43) + 1 * c.val) / 256 = kb by omega, show (256 * (kb % 43) + 1 * c.val) % 256 = c.val by omega]
  · have hk := k.isLt
    refine ⟨_, permPieces_mem _ (k.val / 256) 43 (by omega), ?_⟩
    rw [Rect.mem_set_unit]
    intro b
    fin_cases b
    · exact ⟨Nat.zero_le _, by show a.val < 0 + 256; omega⟩
    · exact ⟨by show 256 * (k.val / 256 % 43) ≤ k.val; omega, by show k.val < 256 * (k.val / 256 % 43) + 256; omega⟩

/-! ## The sum over the contracted axis -/

/-- Column `c` of a permuted block against the place it holds, both ways. -/
def permEquiv : Fin 256 ≃ Fin 256 where
  toFun c := ⟨c.val % 8 * 32 + c.val / 8, by omega⟩
  invFun s := ⟨s.val % 32 * 8 + s.val / 32, by omega⟩
  left_inv c := Fin.ext (by show (c.val % 8 * 32 + c.val / 8) % 32 * 8 + (c.val % 8 * 32 + c.val / 8) / 32 = c.val; omega)
  right_inv s := Fin.ext (by show (s.val % 32 * 8 + s.val / 32) % 8 * 32 + (s.val % 32 * 8 + s.val / 32) / 8 = s.val; omega)

/-- Adding up 256 places at a time, each block in its permuted order, adds up all the places. -/
theorem sum_blocks (f : ℕ → EReal) : ∀ n : ℕ,
    ∑ kb ∈ Finset.range n, ∑ r : Fin 256, f (256 * kb + (r.val % 8 * 32 + r.val / 8)) = ∑ k ∈ Finset.range (256 * n), f k
  | 0 => by simp
  | n + 1 => by
    rw [Finset.sum_range_succ, sum_blocks f n, Nat.mul_succ, Finset.sum_range_add]
    congr 1
    rw [Finset.sum_range]
    exact Equiv.sum_comp permEquiv fun s : Fin 256 => f (256 * n + s.val)

/-- The dequantised weight of place `k`, column `n`: the code times the decoded scale of its group. -/
def weight (w : Vec Ideal S34x344x256 .i8) (n : Fin 256) (k : ℕ) : EReal :=
  (((w (ix3 (byte (2 + k % 32)) (group (k / 32)) n)).toInt : ℝ) : EReal)
    * Half.value (Half.word (w (ix3 (byte 0) (group (k / 32)) n)) (w (ix3 (byte 1) (group (k / 32)) n)))

/-- A row of a dequantised block is the weight of the place that the permuted column holds. -/
theorem deq_planes (w : Vec Ideal S34x344x256 .i8) (kb : ℕ) (hk : kb < 43) (r n : Fin 256) :
    deq (F := Ideal) (planesOf (F := Ideal) w kb) (ix2 r n) = weight w n (256 * kb + (r.val % 8 * 32 + r.val / 8)) := by
  have hr := r.isLt
  rw [deq_apply, planesOf_apply _ _ _ hk, planesOf_apply _ _ _ hk, planesOf_apply _ _ _ hk]
  unfold weight
  rw [show (256 * kb + (r.val % 8 * 32 + r.val / 8)) % 32 = r.val / 8 by omega,
    show (256 * kb + (r.val % 8 * 32 + r.val / 8)) / 32 = 8 * kb + r.val % 8 by omega]

/-- An entry of the kernel's block: the activations against the dequantised weights, over the whole contracted axis. -/
theorem block_apply (x : Vec Ideal S256x11008 .bf16) (w : Vec Ideal S34x344x256 .i8) (a n : Fin 256) :
    block (F := Ideal) (permuted (F := Ideal) x) w (ix2 a n) = ∑ k : Fin 11008, x (ix2 a k) * weight w n k.val := by
  have h1 : block (F := Ideal) (permuted (F := Ideal) x) w (ix2 a n)
      = acc (F := Ideal) (colsOf (permuted (F := Ideal) x)) (planesOf (F := Ideal) w) 43 (ix2 a n) := rfl
  rw [h1, acc_apply]
  have h2 : ∀ kb ∈ Finset.range 43, (∑ r : Fin 256, colsOf (F := Ideal) (permuted (F := Ideal) x) kb (ix2 a r)
        * deq (F := Ideal) (planesOf (F := Ideal) w kb) (ix2 r n))
      = ∑ r : Fin 256, (fun k : ℕ => x (ix2 a (place k)) * weight w n k) (256 * kb + (r.val % 8 * 32 + r.val / 8)) := by
    intro kb hkb
    have hk := Finset.mem_range.mp hkb
    refine Finset.sum_congr rfl fun r _ => ?_
    have hr := r.isLt
    rw [deq_planes w kb hk, colsOf_apply _ _ hk, permuted_apply]
    show x (ix2 a (place (source ((256 * kb + r.val) % 11008)))) * _ = _
    rw [show source ((256 * kb + r.val) % 11008) = 256 * kb + (r.val % 8 * 32 + r.val / 8) by unfold source; omega]
  rw [Finset.sum_congr rfl h2, sum_blocks (fun k : ℕ => x (ix2 a (place k)) * weight w n k), Finset.sum_range]
  refine Finset.sum_congr rfl fun k _ => ?_
  show x (ix2 a (place k.val)) * _ = _
  rw [show place k.val = k from Fin.ext (Nat.mod_eq_of_lt k.isLt)]

end Cert.KernelIdeal.Body
end
-- ==== Proof.Array.lean ====
module
public import proofs.«01_k».proof.Proof.Entry
public import Idealize.ShloMosaic.Lib.StableHlo.Run
public import Idealize.ShloMosaic.Lib.StableHlo.ReadAt
public import Idealize.ShloMosaic.Lib.Pipeline.FrameSuffix
public import Idealize.ShloMosaic.Lib.Pipeline.ValueKit

/-! # What the kernel's program leaves in its result -/

@[expose] public section
set_option maxRecDepth 16384
noncomputable section

namespace Cert.KernelIdeal.Body
open Cert Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The activations as launched. -/
abbrev xArg : Vec Ideal S256x1x11008 .bf16 := m ((c.tc : Thread nD τ).loc main_arg0)
/-- The weight bytes as launched. -/
abbrev wArg : Vec Ideal S5376x344x34 .i8 := m ((c.tc : Thread nD τ).loc main_arg1)

/-! ## What the region finds -/

theorem entry_x (a : Fin 256) (k : Fin 11008) :
    (V m c main_v1 : Vec Ideal S256x11008 .bf16) (ix2 a k) = xArg m c (ix3 a 0 k) := by
  unfold V V0 hostOps0
  after_reads_at

theorem entry_w (j : Fin 34) (g : Fin 344) (o : Fin 5376) :
    (V m c main_v0 : Vec Ideal S34x344x5376 .i8) (ix3 j g o) = wArg m c (ix3 o g j) := by
  unfold V V0 hostOps0
  after_reads_at

/-! ## The blocks -/

theorem index0 : ∀ t : Fin cfg0.N, win0_0.index t = ![0, 0] := (by decide +kernel : ∀ t : Fin grid0.N, _)
theorem index1 : ∀ t : Fin cfg0.N, win0_1.index t = ![0, 0, t.val] := (by decide +kernel : ∀ t : Fin grid0.N, _)
theorem index2 : ∀ t : Fin cfg0.N, win0_2.index t = ![0, t.val] := (by decide +kernel : ∀ t : Fin grid0.N, _)

/-- Every grid point sees all the activations. -/
theorem block_x (t : Fin cfg0.N) (a : Fin 256) (k : Fin 11008) :
    (iblk m c 0 t : Vec Ideal S256x11008 .bf16) (ix2 a k) = xArg m c (ix3 a 0 k) := by
  rw [← entry_x]
  blk_simp [iblk]
  congr 1
  blk_ext [index0]

/-- Grid point `t` sees columns `256 t` to `256 t + 255` of the bytes. -/
theorem block_w (t : Fin cfg0.N) (j : Fin 34) (g : Fin 344) (n : Fin 256) (o : Fin 5376) (ho : o.val = 256 * t.val + n.val) :
    (iblk m c 1 t : Vec Ideal S34x344x256 .i8) (ix3 j g n) = wArg m c (ix3 o g j) := by
  rw [← entry_w]
  blk_simp [iblk]
  congr 1
  blk_ext [index1]

/-- The activations without their unit axis. -/
def acts : Vec Ideal S256x11008 .bf16 := fun y => xArg m c (@ix3 256 1 11008 (y 0) 0 (y 1))

theorem block_x_eq (t : Fin cfg0.N) : (iblk m c 0 t : Vec Ideal S256x11008 .bf16) = acts m c := by
  funext y
  obtain ⟨a, k, rfl⟩ : ∃ (a : Fin 256) (k : Fin 11008), y = ix2 a k := ⟨y 0, y 1, eq_ix2 y⟩
  exact block_x m c t a k

/-- After every grid point the scratch holds the permuted activations, and the result's block is the one they give. -/
theorem after_point : ∀ (n : ℕ) (hn : n < cfg0.N), outsAt0 m c n hn
    = (block (F := Ideal) (permuted (F := Ideal) (acts m c)) (iblk m c 1 ⟨n, hn⟩), permuted (F := Ideal) (acts m c))
  | 0, hn => by
    refine (outsAt0_A m c ⟨0, hn⟩ (Nat.zero_mod _)).trans ?_
    rw [out_A, sout_A, block_x_eq]
  | n + 1, hn => by
    have hN : n + 1 < 21 := hn
    refine (outsAt0_B m c ⟨n + 1, hn⟩ (by show ¬(n + 1) % 21 = 0; omega)).trans ?_
    have ih := after_point n (Nat.lt_of_succ_lt hn)
    have e : (outsAt0 m c (n + 1 - 1) (by show n < _; exact Nat.lt_of_succ_lt hn)).2 = permuted (F := Ideal) (acts m c) := congrArg Prod.snd ih
    rw [out_B]
    show (block _ _, sout0_B_0 _ _ _ _ _ _ _ _ _ _ _ _ _ _ _ _) = _
    unfold sout0_B_0
    exact congrArg₂ Prod.mk (congrArg (block · _) e) e

/-! ## The result -/

/-- The dequantised weight of row `o`, place `k`. -/
def rowWeight (o : Fin 5376) (k : Fin 11008) : EReal :=
  (((wArg m c (ix3 o ⟨k.val / 32, by omega⟩ ⟨2 + k.val % 32, by omega⟩)).toInt : ℝ) : EReal)
    * Half.value (Half.word (wArg m c (ix3 o ⟨k.val / 32, by omega⟩ 0)) (wArg m c (ix3 o ⟨k.val / 32, by omega⟩ 1)))

/-- The result of the linear layer. -/
def result : Vec Ideal S256x5376 .bf16 := fun y =>
  ∑ k : Fin 11008, xArg m c (@ix3 256 1 11008 (y 0) 0 k) * rowWeight m c (y 1) k

theorem weight_eq (t : Fin cfg0.N) (n : Fin 256) (o : Fin 5376) (ho : o.val = 256 * t.val + n.val) (k : Fin 11008) :
    weight (iblk m c 1 t) n k.val = rowWeight m c o k := by
  have hk := k.isLt
  unfold weight rowWeight
  have hg : group (k.val / 32) = (⟨k.val / 32, by omega⟩ : Fin 344) := Fin.ext (Nat.mod_eq_of_lt (by omega))
  have hb : byte (2 + k.val % 32) = (⟨2 + k.val % 32, by omega⟩ : Fin 34) := Fin.ext (Nat.mod_eq_of_lt (by omega))
  rw [block_w m c t _ _ n o ho, block_w m c t _ _ n o ho, block_w m c t _ _ n o ho, hg, hb]
  rfl

/-- The region leaves the result in its output array. -/
theorem array_eq : (dats m 0 c).arrAt 2 cfg0.N = result m c := by
  refine (dats m 0 c).arrAt_eq_of_covers 2 _ (by decide +kernel) fun t hf y => ?_
  blk_simp
  rw [after0_2, after_point]
  revert y
  intro (y : S256x256.Idx)
  obtain ⟨a, n, rfl⟩ : ∃ (a n : Fin 256), y = ix2 a n := ⟨y 0, y 1, eq_ix2 y⟩
  have ht : t.val < 21 := t.isLt
  have e : ((win0_2.blk t).view.emb (@ix2 256 256 a n) : S256x5376.Idx) = ix2 a (⟨256 * t.val + n.val, by omega⟩ : Fin 5376) := by
    blk_ext [index2]
  refine (block_apply (acts m c) (iblk m c 1 t) a n).trans ?_
  refine Eq.trans ?_ (congrArg (result m c) e).symm
  show _ = ∑ k : Fin 11008, xArg m c (ix3 a 0 k) * rowWeight m c _ k
  refine Finset.sum_congr rfl fun k _ => ?_
  exact congrArg (acts m c (ix2 a k) * ·) (weight_eq m c t n (⟨256 * t.val + n.val, by omega⟩ : Fin 5376) rfl k)

/-! ## The program's run -/

/-- The buffers when the region is left. -/
abbrev exitV : Valuation τ sig (Elt Ideal) :=
  Pipeline.withArrays spec0 c (Gen.V0 m c) fun w => (Gen.dats m 0 c).arrAt w cfg0.N

theorem tail_eq (V0 : Valuation τ sig (Elt Ideal)) :
    after (List.flatten [Gen.hostOps1]) V0 (Proc.devRef .tc main_v3)
      = shapeCast _ (V0 (Proc.devRef .tc main_v2)) shapeCasts_S256x5376_S256x1x5376 := by
  simp only [Gen.hostOps1, List.flatten_cons, List.flatten_nil, List.append_nil, List.cons_append, List.nil_append]
  after_results <;> rfl

theorem exit_eq : exitV m c (Proc.devRef .tc main_v2) = result m c :=
  (Pipeline.withArrays_arr spec0 Gen.launch0.win.arr_inj c (Gen.V0 m c) _ 2).trans (array_eq m c)

/-- What the program returns: the result with its unit axis. -/
def returned : Vec Ideal S256x1x5376 .bf16 := shapeCast S256x1x5376 (result m c) shapeCasts_S256x5376_S256x1x5376

theorem fin_eq : Pipeline.afterTail₀ cfgs (Gen.dats m) 0 (Gen.V0 m) [Gen.hostOps1] c main_v3 = returned m c :=
  (tail_eq (exitV m c)).trans (by rw [exit_eq]; rfl)

/-- Every execution of the program terminates with the result of the linear layer, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 (Pipeline.mem_restRefs_of main_v3 (by decide) (by decide))).trans (fin_eq m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c)⟩) (Gen.run_main m ρ)

/-- An entry of what the program returns. -/
theorem returned_apply (a : Fin 256) (o : Fin 5376) :
    returned m c (ix3 a 0 o) = ∑ k : Fin 11008, xArg m c (ix3 a 0 k) * rowWeight m c o k := by
  unfold returned
  pointwise
  rfl

end Cert.KernelIdeal.Body
end
-- ==== Proof.Reference.lean ====
module
public import proofs.«01_k».proof.Proof.Gen.ReferenceIdeal.Run
public import proofs.«01_k».proof.Proof.Gen.ReferenceIdeal.Read
public import Idealize.ShloMosaic.Lib.Pointwise
public import Idealize.ShloMosaic.Lib.BitcastConvert
public import Idealize.ShloMosaic.Lib.StableHlo.ReadAt
public import Idealize.ShloMosaic.Lib.Pipeline.ValueKit

/-! # What the reference's program returns, entry by entry, at the extended reals -/

@[expose] public section
set_option maxRecDepth 16384
noncomputable section

namespace Cert.ReferenceIdeal.Body
open Cert Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-- The activations as launched. -/
abbrev xArg : Vec Ideal S256x1x11008 .bf16 := m ((c.tc : Thread nD τ).loc main_arg0)
/-- The weight bytes as launched. -/
abbrev wArg : Vec Ideal S5376x344x34 .i8 := m ((c.tc : Thread nD τ).loc main_arg1)

/-- Two bytes read as one 16-bit word: byte 1 above byte 0. -/
theorem widen_apply (x : IVec S5376x344x2 8) (h : S5376x344.SplitsWords 16 S5376x344x2 8) (o : Fin 5376) (g : Fin 344) :
    Host.bitcastConvertWiden S5376x344 16 x h (ix2 o g) = x (ix3 o g 1) ++ x (ix3 o g 0) := by
  have e : ∀ (p : Fin 2) (k : S5376x344x2.Coord h.axis), k.val = p.val → h.snoc (ix2 o g) k = ix3 o g p := by
    intro p k hk
    funext b; apply Fin.ext
    match b with
    | ⟨0, _⟩ => rfl
    | ⟨1, _⟩ => rfl
    | ⟨2, _⟩ => exact hk
  apply BitVec.eq_of_getLsbD_eq
  intro q hq
  rw [Host.bitcastConvertWiden_getLsbD _ _ _ _ _ q hq, BitVec.getLsbD_append]
  by_cases hlo : q < 8
  · rw [if_pos hlo, e 0 _ (show q / 8 = 0 by omega), show q % 8 = q by omega]
  · rw [if_neg hlo, e 1 _ (show q / 8 = 1 by omega), show q % 8 = q - 8 by omega]

/-- The scales that the region finds. -/
theorem entry_d (o : Fin 5376) (g : Fin 344) :
    (V m c main_v1 : Vec Ideal S5376x344 .f16) (ix2 o g)
      = Ideal.ieee 5 10 (wArg m c (ix3 o g 1) ++ wArg m c (ix3 o g 0)) := by
  unfold V V0 hostOps0
  after_reads_at
  rw [widen_apply]
  pointwise
  rfl

/-- The codes that the region finds. -/
theorem entry_q (o : Fin 5376) (g : Fin 344) (j : Fin 32) :
    (V m c main_v3 : Vec Ideal S5376x344x32 .i8) (ix3 o g j) = wArg m c (ix3 o g ⟨2 + j.val, by omega⟩) := by
  unfold V V0 hostOps0
  after_reads_at
  show extractStridedSlice _ _ _ _ (ix3 o g j) = _
  pointwise

theorem index0 : ∀ t : Fin cfg0.N, win0_0.index t = ![0, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0, 0] := (by decide +kernel : ∀ t : Fin grid0.N, _)

theorem block_d (t : Fin cfg0.N) (o : Fin 5376) (g : Fin 344) :
    (iblk m c 1 t : Vec Ideal S5376x344 .f16) (ix2 o g)
      = Ideal.ieee 5 10 (wArg m c (ix3 o g 1) ++ wArg m c (ix3 o g 0)) := by
  rw [← entry_d]
  blk_simp [iblk]
  congr 1
  blk_ext [index1]

theorem block_q (t : Fin cfg0.N) (o : Fin 5376) (g : Fin 344) (j : Fin 32) :
    (iblk m c 0 t : Vec Ideal S5376x344x32 .i8) (ix3 o g j) = wArg m c (ix3 o g ⟨2 + j.val, by omega⟩) := by
  rw [← entry_q]
  blk_simp [iblk]
  congr 1
  blk_ext [index0]

/-- The body's output from its inputs: code times scale. -/
theorem out_apply (x0 : Vec Ideal S5376x344x32 .i8) (x1 : Vec Ideal S5376x344 .f16) (o : Fin 5376) (g : Fin 344) (j : Fin 32) :
    out0_2 (F := Ideal) x0 x1 (ix3 o g j) = (((x0 (ix3 o g j)).toInt : ℝ) : EReal) * x1 (ix2 o g) := by
  unfold out0_2
  rw [View.canon_unit_zero (S := S5376x344x32) (funext (by decide)), View.ld_unit_zero (S := S5376x344x32) (funext (by decide)),
    View.ld_unit_zero (S := S5376x344) (funext (by decide))]
  pointwise [k0_pay1]
  rfl

/-- The dequantised weights. -/
def dequantised : Vec Ideal S5376x344x32 .bf16 := fun y =>
  (((wArg m c (@ix3 5376 344 34 (y 0) (y 1) ⟨2 + (y 2).val, Nat.add_lt_add_left (show (y 2).val < 32 from (y 2).isLt) 2⟩)).toInt : ℝ) : EReal)
    * Ideal.ieee 5 10 (wArg m c (@ix3 5376 344 34 (y 0) (y 1) 1) ++ wArg m c (@ix3 5376 344 34 (y 0) (y 1) 0))

/-- The region leaves them in its output array. -/
theorem array_eq : (dats m 0 c).arrAt 2 cfg0.N = dequantised m c := by
  refine (dats m 0 c).arrAt_eq_of_covers 2 _ (by decide +kernel) fun t hf y => ?_
  blk_simp
  rw [after0_2]
  revert y
  intro (y : S5376x344x32.Idx)
  obtain ⟨o, g, j, rfl⟩ : ∃ (o : Fin 5376) (g : Fin 344) (j : Fin 32), y = ix3 o g j := ⟨y 0, y 1, y 2, eq_ix3 y⟩
  have e : ((win0_2.blk t).view.emb (@ix3 5376 344 32 o g j) : S5376x344x32.Idx) = ix3 o g j := by
    blk_ext [index2]
  refine (out_apply _ _ o g j).trans ?_
  refine Eq.trans ?_ (congrArg (dequantised m c) e).symm
  rw [block_d, block_q]
  rfl

/-- The program's result, entry by entry. -/
theorem result_apply (a : Fin 256) (o : Fin 5376) :
    Read.val_main_v7 (F := Ideal) (xArg m c) (Value.reg_main_v4 m c) (ix3 a 0 o)
      = ∑ k : Fin 11008, xArg m c (ix3 a 0 k) * dequantised m c (ix3 o ⟨k.val / 32, by omega⟩ ⟨k.val % 32, by omega⟩) := by
  refine (Read.val_main_v6_apply (xArg m c) (Value.reg_main_v4 m c) (ix3 a 0 o)).trans ?_
  refine Finset.sum_congr rfl fun k _ => ?_
  rw [Read.val_main_v5_apply, show Value.reg_main_v4 m c = dequantised m c from array_eq m c]
  have hk := k.isLt
  have ho := o.isLt
  have el : Read.lidx_main_v6 (ix3 a 0 o) k = ix3 a 0 k := by
    funext b; apply Fin.ext
    match b with
    | ⟨0, _⟩ => rfl
    | ⟨1, _⟩ => rfl
    | ⟨2, _⟩ => rfl
  have er : Read.idx_main_v5 (Read.ridx_main_v6 (ix3 a 0 o) k) = ix3 o ⟨k.val / 32, by omega⟩ ⟨k.val % 32, by omega⟩ := by
    funext b; apply Fin.ext
    match b with
    | ⟨0, _⟩ => show (o.val * 11008 + k.val) / 11008 = o.val; omega
    | ⟨1, _⟩ => show (o.val * 11008 + k.val) / 32 % 344 = k.val / 32; omega
    | ⟨2, _⟩ => show (o.val * 11008 + k.val) % 32 = k.val % 32; omega
  rw [el, er]

end Cert.ReferenceIdeal.Body
end
-- ==== Proof.Precondition.lean ====
module
public import proofs.«01_k».proof.Pre_no_scale_nan
public import Idealize.ShloMosaic.Lib.Pointwise

/-! # What the precondition says of the scales' bytes -/

@[expose] public section
set_option maxRecDepth 16384
noncomputable section

namespace Cert.Pre_no_scale_nan
open Idealize.ShloMosaic

/-- The shape relations that the precondition's operations take. -/
theorem facts : Facts where
  slices_S5376x344x34_S5376x344x1_0_0_0 := by decide
  shapeCasts_S5376x344x1_S5376x344 := by decide
  natLt_8_32 := by decide
  slices_S5376x344x34_S5376x344x1_0_0_1 := by decide
  bcast_S_S5376x344 := by decide

/-- The comparison at one block, in numbers. -/
theorem le_of_test (lo hi : BitVec 8)
    (h : BitVec.ofBool ((((hi.setWidth 32 &&& 127#32) * 256#32 + lo.setWidth 32 : BitVec 32)).sle 31744#32) = 1#1) :
    (lo.toNat + 256 * hi.toNat) % 32768 ≤ 31744 := by
  have hl := lo.isLt
  have hh := hi.isLt
  have hand : (hi.setWidth 32 &&& 127#32).toNat = hi.toNat % 128 := by
    rw [BitVec.toNat_and, BitVec.toNat_setWidth, show (127#32).toNat = 2 ^ 7 - 1 from rfl, Nat.and_two_pow_sub_one_eq_mod]
    omega
  have hsum : ((hi.setWidth 32 &&& 127#32) * 256#32 + lo.setWidth 32 : BitVec 32).toNat = hi.toNat % 128 * 256 + lo.toNat := by
    rw [BitVec.toNat_add, BitVec.toNat_mul, hand, BitVec.toNat_setWidth, show (256#32).toNat = 256 from rfl]
    omega
  generalize ((hi.setWidth 32 &&& 127#32) * 256#32 + lo.setWidth 32 : BitVec 32) = s at h hsum
  have hs : s.sle 31744#32 = true := by
    cases hb : s.sle 31744#32 with
    | true => rfl
    | false => rw [hb] at h; exact absurd h (by decide)
  rw [BitVec.sle_iff_toInt_le, BitVec.toInt_eq_toNat_of_lt (by omega), show (31744#32).toInt = 31744 from rfl] at hs
  omega

/-- Under the precondition no scale's word is a NaN: its sign apart, it is at most the infinity's. -/
theorem no_nan [Facts] (x : FVec Ideal S256x1x11008 .bf16) (w : IVec S5376x344x34 8) (h : fn (F := Ideal) x w = fun _ => 1#1)
    (o : Fin 5376) (g : Fin 344) :
    ((w (ix3 o g 0)).toNat + 256 * (w (ix3 o g 1)).toNat) % 32768 ≤ 31744 := by
  have e := congrFun h (ix2 o g)
  unfold fn at e
  revert e
  pointwise
  exact le_of_test _ _

end Cert.Pre_no_scale_nan
end
-- ==== Proof.Equation.lean ====
module
public import proofs.«01_k».proof.Proof.Array
public import proofs.«01_k».proof.Proof.Reference
public import proofs.«01_k».proof.Proof.Precondition

/-! # The equation: under the precondition the two programs return the same result -/

@[expose] public section
set_option maxRecDepth 16384
noncomputable section

namespace Cert.Equation
open Cert Idealize.ShloMosaic Idealize.SL.Sem Idealize.ShloMosaic.TcCoe

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The kernel's weight of row `o` and column `k` is the reference's. -/
theorem weight_eq (hw : ReferenceIdeal.Body.wArg m' c = KernelIdeal.Body.wArg m c)
    (hn : ∀ (o : Fin 5376) (g : Fin 344), ((KernelIdeal.Body.wArg m c (ix3 o g 0)).toNat + 256 * (KernelIdeal.Body.wArg m c (ix3 o g 1)).toNat) % 32768 ≤ 31744)
    (o : Fin 5376) (k : Fin 11008) :
    ReferenceIdeal.Body.dequantised m' c (ix3 o ⟨k.val / 32, by omega⟩ ⟨k.val % 32, by omega⟩) = KernelIdeal.Body.rowWeight m c o k := by
  unfold ReferenceIdeal.Body.dequantised KernelIdeal.Body.rowWeight
  rw [hw, Half.value_word _ _ (hn o _)]
  rfl

/-- The reference's result is the kernel's. -/
theorem result_eq (hx : ReferenceIdeal.Body.xArg m' c = KernelIdeal.Body.xArg m c)
    (hw : ReferenceIdeal.Body.wArg m' c = KernelIdeal.Body.wArg m c)
    (hn : ∀ (o : Fin 5376) (g : Fin 344), ((KernelIdeal.Body.wArg m c (ix3 o g 0)).toNat + 256 * (KernelIdeal.Body.wArg m c (ix3 o g 1)).toNat) % 32768 ≤ 31744) :
    ReferenceIdeal.Read.val_main_v7 (F := Ideal) (ReferenceIdeal.Body.xArg m' c) (ReferenceIdeal.Value.reg_main_v4 m' c) = KernelIdeal.Body.returned m c := by
  refine funext fun (y : KernelIdeal.S256x1x5376.Idx) => ?_
  obtain ⟨a, o, rfl⟩ : ∃ (a : Fin 256) (o : Fin 5376), y = ix3 a 0 o :=
    ⟨y 0, y 2, (eq_ix3 y).trans (congrArg (@ix3 256 1 5376 (y 0) · (y 2)) (Subsingleton.elim (α := Fin 1) _ _))⟩
  refine (ReferenceIdeal.Body.result_apply m' c a o).trans (Eq.trans ?_ (KernelIdeal.Body.returned_apply m c a o).symm)
  exact Finset.sum_congr rfl fun k _ => by rw [hx, weight_eq m m' c hw hn]

end Cert.Equation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All claims. The three programs terminate, change no argument and leave every semaphore at zero; and, under the
precondition, the idealized kernel and the idealized reference return the same result. -/
theorem claim : Cert.Claim :=
  ⟨Cert.Kernel.Gen.facts, Cert.KernelIdeal.Gen.facts, Cert.ReferenceIdeal.Gen.facts, Cert.Pre_no_scale_nan.facts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    trivial,
    fun m g m' g' hp he => ⟨Cert.KernelIdeal.Body.returned m, Cert.KernelIdeal.Body.run m g,
      (θ_run Cert.ReferenceIdeal.defs _ _).mono
        (fun _ h c => ⟨(h c).1.trans (Cert.Equation.result_eq m m' c (he c).1 (he c).2
          (haveI := Cert.Pre_no_scale_nan.facts; Cert.Pre_no_scale_nan.no_nan _ _ (hp c))), (h c).2⟩)
        (Cert.ReferenceIdeal.Value.run m' g')⟩⟩

end Cert.Proof

end
